-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S1x16384x8 : Shape := ⟨3, ![1, 16384, 8]⟩
abbrev S128x8 : Shape := ⟨2, ![128, 8]⟩
abbrev S128 : Shape := ⟨1, ![128]⟩
abbrev S128x128 : Shape := ⟨2, ![128, 128]⟩
abbrev S5x128 : Shape := ⟨2, ![5, 128]⟩
abbrev S5 : Shape := ⟨1, ![5]⟩
abbrev S_ : Shape := ⟨0, ![]⟩

class Facts : Prop where
  bcast_S_S1x16384x8 : S_.BroadcastsInDim S1x16384x8 (![] : Fin 0 → Fin S1x16384x8.rank)
  reducesTo_S1x16384x8_S_d0_1_2 : S1x16384x8.ReducesTo [0, 1, 2] S_
  h_S_ : 0 < S_.numel
  bcast_S_S128x8 : S_.BroadcastsInDim S128x8 (![] : Fin 0 → Fin S128x8.rank)
  reducesTo_S128x8_S_d0_1 : S128x8.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S5x128 : S_.BroadcastsInDim S5x128 (![] : Fin 0 → Fin S5x128.rank)
  reducesTo_S5x128_S_d0_1 : S5x128.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S128 .f32) (main_arg5 : FVec F S5x128 .f32) (main_arg6 : FVec F S5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S5x128 .f32 := Host.absf main_arg5
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S1x16384x8 .f32) (main_arg1 : FVec F S128x8 .f32) (main_arg2 : FVec F S128 .f32) (main_arg3 : FVec F S128x128 .f32) (main_arg4 : FVec F S128 .f32) (main_arg5 : FVec F S5x128 .f32) (main_arg6 : FVec F S5 .f32) : IVec S_ 1 :=
  let main_v0 : FVec F S1x16384x8 .f32 := Host.absf main_arg0
  let main_cst : FVec F S_ .f32 := constant S_ .f32 0x7F800000#32
  let main_v1 : FVec F S1x16384x8 .f32 := broadcastInDim S1x16384x8 ![] bcast_S_S1x16384x8 main_cst
  let main_v2 : IVec S1x16384x8 1 := cmpf .olt main_v0 main_v1
  let main_c : IVec S_ 1 := constantI S_ 1 1#1
  let main_v3 : IVec S_ 1 := (fun x v => Host.reduce IntOp.andi x v reducesTo_S1x16384x8_S_d0_1_2 h_S_) main_v2 main_c
  let main_v4 : FVec F S128x8 .f32 := Host.absf main_arg1
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S1x16384x8 : Shape := ⟨3, ![1, 16384, 8]⟩
abbrev S128x8 : Shape := ⟨2, ![128, 8]⟩
abbrev S128 : Shape := ⟨1, ![128]⟩
abbrev S128x128 : Shape := ⟨2, ![128, 128]⟩
abbrev S5x128 : Shape := ⟨2, ![5, 128]⟩
abbrev S5 : Shape := ⟨1, ![5]⟩
abbrev S128x1 : Shape := ⟨2, ![128, 1]⟩
abbrev S5x1 : Shape := ⟨2, ![5, 1]⟩
abbrev S16384x12 : Shape := ⟨2, ![16384, 12]⟩
abbrev S1x2048x8 : Shape := ⟨3, ![1, 2048, 8]⟩
abbrev S2048x12 : Shape := ⟨2, ![2048, 12]⟩
abbrev S2048x8 : Shape := ⟨2, ![2048, 8]⟩
abbrev S128x2048 : Shape := ⟨2, ![128, 2048]⟩
abbrev S5x2048 : Shape := ⟨2, ![5, 2048]⟩
abbrev S2048 : Shape := ⟨1, ![2048]⟩
abbrev S1x2048 : Shape := ⟨2, ![1, 2048]⟩
abbrev S16x5 : Shape := ⟨2, ![16, 5]⟩
abbrev S16x2048 : Shape := ⟨2, ![16, 2048]⟩
abbrev S2048x16 : Shape := ⟨2, ![2048, 16]⟩

abbrev nBuf : Space → Nat
  | .hbm => 11
  | .vmem => 10
  | .smem => 0
  | _ => 0

abbrev bufTy : (tb : Table) → Fin (tcTables nBuf tb) → BufTy
  | .hbm, ⟨0, _⟩ => ⟨S1x16384x8, .f32⟩
  | .hbm, ⟨1, _⟩ => ⟨S128x8, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S5x128, .f32⟩
  | .hbm, ⟨6, _⟩ => ⟨S5, .f32⟩
  | .hbm, ⟨7, _⟩ => ⟨S128x1, .f32⟩
  | .hbm, ⟨8, _⟩ => ⟨S128x1, .f32⟩
  | .hbm, ⟨9, _⟩ => ⟨S5x1, .f32⟩
  | .hbm, ⟨10, _⟩ => ⟨S16384x12, .f32⟩
  | .local _ .vmem, ⟨0, _⟩ => ⟨S1x2048x8, .f32⟩
  | .local _ .vmem, ⟨1, _⟩ => ⟨S1x2048x8, .f32⟩
  | .local _ .vmem, ⟨2, _⟩ => ⟨S128x8, .f32⟩
  | .local _ .vmem, ⟨3, _⟩ => ⟨S128x1, .f32⟩
  | .local _ .vmem, ⟨4, _⟩ => ⟨S128x128, .f32⟩
  | .local _ .vmem, ⟨5, _⟩ => ⟨S128x1, .f32⟩
  | .local _ .vmem, ⟨6, _⟩ => ⟨S5x128, .f32⟩
  | .local _ .vmem, ⟨7, _⟩ => ⟨S5x1, .f32⟩
  | .local _ .vmem, ⟨8, _⟩ => ⟨S2048x12, .f32⟩
  | .local _ .vmem, ⟨9, _⟩ => ⟨S2048x12, .f32⟩
  | _, _ => ⟨S1x16384x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x12 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x16384x8 : Shape := ⟨3, ![1, 16384, 8]⟩
abbrev S128x8 : Shape := ⟨2, ![128, 8]⟩
abbrev S128 : Shape := ⟨1, ![128]⟩
abbrev S128x128 : Shape := ⟨2, ![128, 128]⟩
abbrev S5x128 : Shape := ⟨2, ![5, 128]⟩
abbrev S5 : Shape := ⟨1, ![5]⟩
abbrev S16384x8 : Shape := ⟨2, ![16384, 8]⟩
abbrev S8x128 : Shape := ⟨2, ![8, 128]⟩
abbrev S16384x128 : Shape := ⟨2, ![16384, 128]⟩
abbrev S1x128 : Shape := ⟨2, ![1, 128]⟩
abbrev S_ : Shape := ⟨0, ![]⟩
abbrev S128x5 : Shape := ⟨2, ![128, 5]⟩
abbrev S16384x5 : Shape := ⟨2, ![16384, 5]⟩
abbrev S1x5 : Shape := ⟨2, ![1, 5]⟩
abbrev S16384 : Shape := ⟨1, ![16384]⟩
abbrev S16384x1 : Shape := ⟨2, ![16384, 1]⟩
abbrev S16384x4 : Shape := ⟨2, ![16384, 4]⟩
abbrev S1 : Shape := ⟨1, ![1]⟩
abbrev S16384x12 : Shape := ⟨2, ![16384, 12]⟩

abbrev nBuf : Space → Nat
  | .hbm => 57
  | .vmem => 0
  | .smem => 0
  | _ => 0

abbrev bufTy : (tb : Table) → Fin (tcTables nBuf tb) → BufTy
  | .hbm, ⟨0, _⟩ => ⟨S1x16384x8, .f32⟩
  | .hbm, ⟨1, _⟩ => ⟨S128x8, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S5x128, .f32⟩
  | .hbm, ⟨6, _⟩ => ⟨S5, .f32⟩
  | .hbm, ⟨7, _⟩ => ⟨S16384x8, .f32⟩
  | .hbm, ⟨8, _⟩ => ⟨S8x128, .f32⟩
  | .hbm, ⟨9, _⟩ => ⟨S16384x128, .f32⟩
  | .hbm, ⟨10, _⟩ => ⟨S1x128, .f32⟩
  | .hbm, ⟨11, _⟩ => ⟨S16384x128, .f32⟩
  | .hbm, ⟨12, _⟩ => ⟨S16384x128, .f32⟩
  | .hbm, ⟨13, _⟩ => ⟨S_, .f32⟩
  | .hbm, ⟨14, _⟩ => ⟨S16384x128, .f32⟩
  | .hbm, ⟨15, _⟩ => ⟨S16384x128, .f32⟩
  | .hbm, ⟨16, _⟩ => ⟨S128x128, .f32⟩
  | .hbm, ⟨17, _⟩ => ⟨S16384x128, .f32⟩
  | .hbm, ⟨18, _⟩ => ⟨S1x128, .f32⟩
  | .hbm, ⟨19, _⟩ => ⟨S16384x128, .f32⟩
  | .hbm, ⟨20, _⟩ => ⟨S16384x128, .f32⟩
  | .hbm, ⟨21, _⟩ => ⟨S_, .f32⟩
  | .hbm, ⟨22, _⟩ => ⟨S16384x128, .f32⟩
  | .hbm, ⟨23, _⟩ => ⟨S16384x128, .f32⟩
  | .hbm, ⟨24, _⟩ => ⟨S128x5, .f32⟩
  | .hbm, ⟨25, _⟩ => ⟨S16384x5, .f32⟩
  | .hbm, ⟨26, _⟩ => ⟨S1x5, .f32⟩
  | .hbm, ⟨27, _⟩ => ⟨S16384x5, .f32⟩
  | .hbm, ⟨28, _⟩ => ⟨S16384x5, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384x1, .f32⟩
  | .hbm, ⟨35, _⟩ => ⟨S16384x5, .f32⟩
  | .hbm, ⟨36, _⟩ => ⟨S16384x5, .f32⟩
  | .hbm, ⟨37, _⟩ => ⟨S16384x5, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x5, .f32⟩
  | .hbm, ⟨42, _⟩ => ⟨S16384x5, .f32⟩
  | .hbm, ⟨43, _⟩ => ⟨S16384x4, .f32⟩
  | .hbm, ⟨44, _⟩ => ⟨S_, .f32⟩
  | .hbm, ⟨45, _⟩ => ⟨S_, .f32⟩
  | .hbm, ⟨46, _⟩ => ⟨S16384x4, .f32⟩
  | .hbm, ⟨47, _⟩ => ⟨S16384x4, .f32⟩
  | .hbm, ⟨48, _⟩ => ⟨S16384x4, .f32⟩
  | .hbm, ⟨49, _⟩ => ⟨S_, .f32⟩
  | .hbm, ⟨50, _⟩ => ⟨S16384x8, .f32⟩
  | .hbm, ⟨51, _⟩ => ⟨S_, .i32⟩
  | .hbm, ⟨52, _⟩ => ⟨S1, .i32⟩
  | .hbm, ⟨53, _⟩ => ⟨S16384x8, .f32⟩
  | .hbm, ⟨54, _⟩ => ⟨S_, .f32⟩
  | .hbm, ⟨55, _⟩ => ⟨S16384x4, .f32⟩
  | .hbm, ⟨56, _⟩ => ⟨S16384x12, .f32⟩
  | _, _ => ⟨S1x16384x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call2_call0_cst : Ref sig .tc := ⟨.hbm, 44, rfl⟩
abbrev main_call2_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_c : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Proof.Spec.lean ====
/- What the network computes from one row of the input, in plain extended-real arithmetic: a perceptron with two
   hidden layers, whose five outputs are turned into shares that sum to one, and the twelve knots made of those shares.
   Nothing here mentions either program. -/
module

public import Idealize.ShloMosaic.PureOps.Ideal

@[expose] public section

noncomputable section

namespace Cert.Proof.Spec

open Idealize.ShloMosaic

/-- One layer before its rectifier: output `i` is the dot product of row `i` of the weights with the input, plus the bias. -/
def dense {K N : Nat} (W : Fin N → Fin K → EReal) (b : Fin N → EReal) (x : Fin K → EReal) (i : Fin N) : EReal :=
  (∑ k, W i k * x k) + b i

/-- The five outputs of the perceptron for one row of the input. -/
def logits (x : Fin 8 → EReal) (W1 : Fin 128 → Fin 8 → EReal) (b1 : Fin 128 → EReal) (W2 : Fin 128 → Fin 128 → EReal)
    (b2 : Fin 128 → EReal) (W3 : Fin 5 → Fin 128 → EReal) (b3 : Fin 5 → EReal) : Fin 5 → EReal :=
  dense W3 b3 fun j => max (dense W2 b2 (fun i => max (dense W1 b1 x i) 0) j) 0

/-- The greatest of the five outputs. -/
def top (l : Fin 5 → EReal) : EReal := Finset.univ.fold max ⊥ l

/-- The weight of output `k`: the exponential of how far it lies below the greatest. -/
def weight (l : Fin 5 → EReal) (k : Fin 5) : EReal := Ideal.exp (l k - top l)

/-- The sum of the five weights. -/
def total (l : Fin 5 → EReal) : EReal := ∑ k, weight l k

/-- The share of output `k`. -/
def share (l : Fin 5 → EReal) (k : Fin 5) : EReal := Ideal.div (weight l k) (total l)

/-- The twelve knots: four zeros, then the sums of the first one, two, three and four shares, then four ones. -/
def knots (l : Fin 5 → EReal) (c : Fin 12) : EReal :=
  if c.val < 4 then 0 else if c.val < 8 then ∑ k : Fin 5, if k.val + 4 ≤ c.val then share l k else 0 else 1

end Cert.Proof.Spec

end
-- ==== Proof.Real.lean ====
/- Extended reals that are real numbers. Sums, products and maxima of real numbers are real, so finite weights, biases and
   inputs give finite outputs; then the weights of a row are positive real numbers, and so is their sum. -/
module

public import proofs.«01_k».proof.Proof.Spec

@[expose] public section

noncomputable section

namespace Cert.Proof.Spec

open Idealize.ShloMosaic

/-- The extended real is a real number. -/
def IsReal (a : EReal) : Prop := ∃ r : ℝ, a = (r : EReal)

theorem IsReal.zero : IsReal 0 := ⟨0, rfl⟩

theorem IsReal.add {a b : EReal} : IsReal a → IsReal b → IsReal (a + b)
  | ⟨r, hr⟩, ⟨s, hs⟩ => ⟨r + s, by rw [hr, hs, EReal.coe_add]⟩

theorem IsReal.mul {a b : EReal} : IsReal a → IsReal b → IsReal (a * b)
  | ⟨r, hr⟩, ⟨s, hs⟩ => ⟨r * s, by rw [hr, hs, EReal.coe_mul]⟩

theorem IsReal.max {a b : EReal} (ha : IsReal a) (hb : IsReal b) : IsReal (max a b) := by
  rcases max_choice a b with h | h <;> rw [h] <;> assumption

theorem IsReal.sum {n : Nat} {f : Fin n → EReal} (h : ∀ k, IsReal (f k)) : IsReal (∑ k, f k) :=
  Finset.sum_induction f IsReal (fun _ _ => IsReal.add) IsReal.zero fun k _ => h k

/-- A number whose absolute value is below `⊤` is real. -/
theorem IsReal.of_abs_lt {a : EReal} (h : Max.max a (-a) < ⊤) : IsReal a := by
  induction a with
  | bot => simp at h
  | top => simp at h
  | coe r => exact ⟨r, rfl⟩

theorem IsReal.dense {K N : Nat} {W : Fin N → Fin K → EReal} {b : Fin N → EReal} {x : Fin K → EReal}
    (hW : ∀ i k, IsReal (W i k)) (hb : ∀ i, IsReal (b i)) (hx : ∀ k, IsReal (x k)) (i : Fin N) : IsReal (dense W b x i) :=
  (IsReal.sum fun k => (hW i k).mul (hx k)).add (hb i)

/-- Finite arguments give finite outputs. -/
theorem IsReal.logits {x : Fin 8 → EReal} {W1 : Fin 128 → Fin 8 → EReal} {b1 : Fin 128 → EReal} {W2 : Fin 128 → Fin 128 → EReal}
    {b2 : Fin 128 → EReal} {W3 : Fin 5 → Fin 128 → EReal} {b3 : Fin 5 → EReal}
    (hx : ∀ k, IsReal (x k)) (hW1 : ∀ i k, IsReal (W1 i k)) (hb1 : ∀ i, IsReal (b1 i)) (hW2 : ∀ i k, IsReal (W2 i k))
    (hb2 : ∀ i, IsReal (b2 i)) (hW3 : ∀ i k, IsReal (W3 i k)) (hb3 : ∀ i, IsReal (b3 i)) (k : Fin 5) :
    IsReal (logits x W1 b1 W2 b2 W3 b3 k) :=
  IsReal.dense hW3 hb3 (fun j => (IsReal.dense hW2 hb2 (fun i => (IsReal.dense hW1 hb1 hx i).max IsReal.zero) j).max IsReal.zero) k

/-- The greatest of the five outputs is one of them, or `⊥`. -/
theorem top_mem (l : Fin 5 → EReal) : top l = ⊥ ∨ ∃ k, top l = l k := by
  unfold top
  induction (Finset.univ : Finset (Fin 5)) using Finset.induction_on with
  | empty => exact .inl (Finset.fold_empty ..)
  | insert a s ha ih =>
    rw [Finset.fold_insert ha]
    rcases max_choice (l a) (s.fold Max.max ⊥ l) with h | h
    · exact .inr ⟨a, h⟩
    · rw [h]; exact ih

/-- No output is above the greatest. -/
theorem le_top' (l : Fin 5 → EReal) (k : Fin 5) : l k ≤ top l :=
  (Finset.le_fold_max _).2 (.inr ⟨k, Finset.mem_univ k, le_rfl⟩)

theorem IsReal.top {l : Fin 5 → EReal} (h : ∀ k, IsReal (l k)) : IsReal (top l) := by
  rcases top_mem l with h' | ⟨k, hk⟩
  · obtain ⟨r, hr⟩ := h 0
    have h0 := le_top' l 0
    rw [h', hr] at h0
    exact absurd h0 (by simp)
  · rw [hk]; exact h k

/-- The weights of a finite row are positive real numbers. -/
theorem weight_pos {l : Fin 5 → EReal} (h : ∀ k, IsReal (l k)) : ∃ w : Fin 5 → ℝ, (∀ k, 0 < w k) ∧ ∀ k, weight l k = (w k : EReal) := by
  obtain ⟨t, ht⟩ := IsReal.top h
  choose r hr using h
  refine ⟨fun k => Real.exp (r k - t), fun k => Real.exp_pos _, fun k => ?_⟩
  unfold weight
  rw [ht, hr k, ← EReal.coe_sub, Ideal.exp_coe]

/-- The sum of real numbers, taken as extended reals, is their sum. -/
theorem sum_coe {n : Nat} (w : Fin n → ℝ) : ∑ k, (w k : EReal) = ((∑ k, w k : ℝ) : EReal) := by
  induction (Finset.univ : Finset (Fin n)) using Finset.induction_on with
  | empty => rfl
  | insert a s ha ih => rw [Finset.sum_insert ha, Finset.sum_insert ha, ih, EReal.coe_add]

end Cert.Proof.Spec

end
-- ==== Proof.Block.lean ====
/- What one grid point of the kernel computes from its blocks, index by index. The kernel holds the batch along the columns: it
   multiplies the weights from the left with the transposed rows. The five weights of a row go through a table of zeros and
   ones, which adds up the first one, two, three or four of them, or all; each sum is then multiplied by the reciprocal of
   the sum of all. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.Proof.Block

open Idealize.ShloMosaic Cert.KernelIdeal Cert.KernelIdeal.Gen

/-- The weight of output `k` for row `r` of the block. -/
theorem pay2_apply (x : FVec Ideal S1x2048x8 .f32) (W1 : FVec Ideal S128x8 .f32) (b1 : FVec Ideal S128x1 .f32)
    (W2 : FVec Ideal S128x128 .f32) (b2 : FVec Ideal S128x1 .f32) (W3 : FVec Ideal S5x128 .f32) (b3 : FVec Ideal S5x1 .f32)
    (k : Fin 5) (r : Fin 2048) :
    k0_pay2 (F := Ideal) x W1 b1 W2 b2 W3 b3 (ix2 k r) =
      Spec.weight (Spec.logits (fun a => x (ix3 0 r a)) (fun i a => W1 (ix2 i a)) (fun i => b1 (ix2 i 0)) (fun i a => W2 (ix2 i a))
        (fun i => b2 (ix2 i 0)) (fun i a => W3 (ix2 i a)) (fun i => b3 (ix2 i 0))) k := by
  pointwise [k0_pay2, Spec.weight, Spec.top, Spec.logits, Spec.dense]
  rfl

/-- The kernel's table: the row of knot `c` selects the first `c - 3` weights for the knots 4 to 7, all of them for the knots 8
    to 11, and none for the knots 0 to 3. -/
def coef (c : Fin 12) (k : Fin 5) : EReal := if (c.val < 8 ∧ k.val + 4 ≤ c.val) ∨ 8 ≤ c.val then 1 else 0

/-- The bit the kernel computes for an entry of its table, as the word it converts. -/
theorem coef_word : ∀ (c : Fin 12) (k : Fin 5),
    BitVec.setWidth 32 (IntOp.ori (IntOp.andi (IntOp.andi (IntOp.cmpi .sge (BitVec.ofNat 32 c.val) 4#32)
      (IntOp.cmpi .slt (BitVec.ofNat 32 c.val) 8#32)) (IntOp.cmpi .sle (BitVec.ofNat 32 k.val) (IntOp.subi (BitVec.ofNat 32 c.val) 4#32)))
      (IntOp.andi (IntOp.cmpi .sge (BitVec.ofNat 32 c.val) 8#32) (IntOp.cmpi .slt (BitVec.ofNat 32 c.val) 12#32)))
      = if (c.val < 8 ∧ k.val + 4 ≤ c.val) ∨ 8 ≤ c.val then 1#32 else 0#32 := by
  decide +kernel

/-- The converted word is the table's entry. -/
theorem coef_eq (c : Fin 12) (k : Fin 5) :
    FloatOps.sitofp (F := Ideal) .f32 (BitVec.setWidth 32 (IntOp.ori (IntOp.andi (IntOp.andi (IntOp.cmpi .sge (BitVec.ofNat 32 c.val) 4#32)
      (IntOp.cmpi .slt (BitVec.ofNat 32 c.val) 8#32)) (IntOp.cmpi .sle (BitVec.ofNat 32 k.val) (IntOp.subi (BitVec.ofNat 32 c.val) 4#32)))
      (IntOp.andi (IntOp.cmpi .sge (BitVec.ofNat 32 c.val) 8#32) (IntOp.cmpi .slt (BitVec.ofNat 32 c.val) 12#32)))) = coef c k := by
  rw [coef_word, coef]
  split
  · show (((1#32 : BitVec 32).toInt : ℝ) : EReal) = 1
    simp
  · show (((0#32 : BitVec 32).toInt : ℝ) : EReal) = 0
    simp

/-- What the block stores for knot `c` of row `r`, from the weights `e` of the block's rows. -/
theorem pay1_apply (e : FVec Ideal S5x2048 .f32) (r : Fin 2048) (c : Fin 12) :
    k0_pay1 (F := Ideal) e (iota .tc S16x5 32 [0] iota_S16x5_d0_w32) (iota .tc S16x5 32 [1] iota_S16x5_d1_w32) k0_pay3 (ix2 r c) =
      (∑ k : Fin 5, coef c k * e (ix2 k r)) * Ideal.div 1 (∑ k : Fin 5, coef 8 k * e (ix2 k r)) := by
  pointwise [k0_pay1, k0_pay3]
  refine congrArg₂ (fun a b => a * Ideal.div 1 b) (Finset.sum_congr rfl fun k _ => ?_) (Finset.sum_congr rfl fun k _ => ?_)
  · exact congrArg (· * e (ix2 k r)) (coef_eq c k)
  · exact congrArg (· * e (ix2 k r)) (coef_eq 8 k)

end Cert.Proof.Block

end
-- ==== Proof.Host.lean ====
/- The reference program in stages: the outputs of the perceptron for all rows, the first four shares of every row, and the
   result made of them. Each stage is the program's own operations; its composed term is the three stages one after the
   other. The first two are read here at an index. -/
module

public import proofs.«01_k».proof.Proof.Spec
public import proofs.«01_k».proof.Proof.Gen.ReferenceIdeal.Run
public import Idealize.ShloMosaic.Lib.Pointwise

@[expose] public section

set_option maxRecDepth 16384

noncomputable section

namespace Cert.Proof.Host

open Idealize.ShloMosaic Cert.ReferenceIdeal Cert.ReferenceIdeal.Gen

/-- The reference's outputs of the perceptron, all rows. -/
def logits (x : FVec Ideal S1x16384x8 .f32) (W1 : FVec Ideal S128x8 .f32) (b1 : FVec Ideal S128 .f32)
    (W2 : FVec Ideal S128x128 .f32) (b2 : FVec Ideal S128 .f32) (W3 : FVec Ideal S5x128 .f32) (b3 : FVec Ideal S5 .f32) :
    FVec Ideal S16384x5 .f32 :=
  have h1 : FVec Ideal S16384x128 .f32 := maximumf (addf
    (Host.dotGeneral dot_S16384x8_S8x128_S16384x128_1_0_0_1_n_n none (shapeCast S16384x8 x shapeCasts_S1x16384x8_S16384x8)
      (transpose S8x128 [1, 0] W1 transposes_S128x8_S8x128_1_0))
    (broadcastInDim S16384x128 ![0, 1] bcast_S1x128_S16384x128_0_1 (broadcastInDim S1x128 ![1] bcast_S128_S1x128_1 b1)))
    (broadcastInDim S16384x128 ![] bcast_S_S16384x128 (constant S_ .f32 0x00000000#32))
  have h2 : FVec Ideal S16384x128 .f32 := maximumf (addf
    (Host.dotGeneral dot_S16384x128_S128x128_S16384x128_1_0_0_1_n_n none h1
      (transpose S128x128 [1, 0] W2 transposes_S128x128_S128x128_1_0))
    (broadcastInDim S16384x128 ![0, 1] bcast_S1x128_S16384x128_0_1 (broadcastInDim S1x128 ![1] bcast_S128_S1x128_1 b2)))
    (broadcastInDim S16384x128 ![] bcast_S_S16384x128 (constant S_ .f32 0x00000000#32))
  addf (Host.dotGeneral dot_S16384x128_S128x5_S16384x5_1_0_0_1_n_n none h2 (transpose S128x5 [1, 0] W3 transposes_S5x128_S128x5_1_0))
    (broadcastInDim S16384x5 ![0, 1] bcast_S1x5_S16384x5_0_1 (broadcastInDim S1x5 ![1] bcast_S5_S1x5_1 b3))

/-- The reference's first four shares of every row, from the outputs of the perceptron. -/
def shares (l : FVec Ideal S16384x5 .f32) : FVec Ideal S16384x4 .f32 :=
  have e : FVec Ideal S16384x5 .f32 := Host.exp (subf l (broadcastInDim S16384x5 ![0, 1] bcast_S16384x1_S16384x5_0_1
    (broadcastInDim S16384x1 ![0] bcast_S16384_S16384x1_0 (maximumf (broadcastInDim S16384 ![] bcast_S_S16384 (constant S_ .f32 0xFF800000#32))
      (Host.reduce FloatOps.maximumf l (constant S_ .f32 0xFF800000#32) reducesTo_S16384x5_S16384_d1 h_S_)))))
  extractStridedSlice S16384x4 ![0, 0] (Host.divf e (broadcastInDim S16384x5 ![0, 1] bcast_S16384x1_S16384x5_0_1
    (broadcastInDim S16384x1 ![0] bcast_S16384_S16384x1_0 (Host.reduceAdd e (constant S_ .f32 0x00000000#32) reducesTo_S16384x5_S16384_d1 h_S_))))
    slices_S16384x5_S16384x4_0_0

/-- The running sums of the four shares along each row. -/
def sums (p : FVec Ideal S16384x4 .f32) : FVec Ideal S16384x4 .f32 :=
  Host.reduceWindowAdd ![1, 4] ![1, 1] ![0, 3] ![0, 0] p (broadcastInDim S_ ![] bcast_S_S_ (constant S_ .f32 0x00000000#32))
    reduceWindows_S16384x4_S16384x4_w1s1p0_0_w4s1p3_0 h_S_

/-- The four columns `u` added into the last four of eight columns of zeros. -/
def placed (u : FVec Ideal S16384x4 .f32) : FVec Ideal S16384x8 .f32 :=
  Host.scatter scatter_S16384x8_S1_S16384x4_01_n_1_0 FloatOps.addf (broadcastInDim S16384x8 ![] bcast_S_S16384x8 (constant S_ .f32 0x00000000#32))
    (broadcastInDim S1 ![] bcast_S_S1 (constantI S_ 32 4#32)) u

/-- The reference's result, from the four shares. -/
def result (p : FVec Ideal S16384x4 .f32) : FVec Ideal S16384x12 .f32 :=
  concatenate S16384x12 1 [⟨S16384x8, placed (addf p (subf (sums p) p))⟩,
    ⟨S16384x4, broadcastInDim S16384x4 ![] bcast_S_S16384x4 (constant S_ .f32 0x3F800000#32)⟩] concatenates_S16384x8_S16384x4_S16384x12_d1

/-- The reference's composed term is these stages, one after the other. -/
theorem res_eq (m : (ℓ : Loc nD τ sig) → Buf (Elt Ideal) ℓ) (c : Dev nD) :
    Value.res_out0 m c = result (shares (logits (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)))) := rfl

/-- The outputs of the perceptron for row `b`. -/
theorem logits_apply (x : FVec Ideal S1x16384x8 .f32) (W1 : FVec Ideal S128x8 .f32) (b1 : FVec Ideal S128 .f32)
    (W2 : FVec Ideal S128x128 .f32) (b2 : FVec Ideal S128 .f32) (W3 : FVec Ideal S5x128 .f32) (b3 : FVec Ideal S5 .f32)
    (b : Fin 16384) (k : Fin 5) :
    logits x W1 b1 W2 b2 W3 b3 (ix2 b k) =
      Spec.logits (fun a => x (ix3 0 b a)) (fun i a => W1 (ix2 i a)) (fun i => b1 (ix1 i)) (fun i a => W2 (ix2 i a))
        (fun i => b2 (ix1 i)) (fun i a => W3 (ix2 i a)) (fun i => b3 (ix1 i)) k := by
  pointwise [logits, Spec.logits, Spec.dense]
  simp only [mul_comm]

/-- The share of output `k` of row `b`. -/
theorem shares_apply (l : FVec Ideal S16384x5 .f32) (b : Fin 16384) (k : Fin 4) :
    shares l (ix2 b k) = Spec.share (fun a => l (ix2 b a)) (k.castLE (by decide)) := by
  have hbot : ∀ a : EReal, max (Ideal.ofBits .f32 0xFF800000#32) a = a := fun a => max_eq_right bot_le
  pointwise [shares, Spec.share, Spec.weight, Spec.total, Spec.top]
  simp only [hbot]
  rfl

end Cert.Proof.Host

end
-- ==== Proof.Columns.lean ====
/- The reference's twelve columns from the four shares of a row. Its running sum is a sum over a window padded with zeros on
   the left, and the four columns it computes are added into columns four to seven of a table of zeros. -/
module

public import proofs.«01_k».proof.Proof.Host
public import Idealize.ShloMosaic.Lib.Routing.OpsPair

@[expose] public section

set_option maxRecDepth 16384

noncomputable section

namespace Cert.Proof.Host

open Idealize.ShloMosaic Cert.ReferenceIdeal Cert.ReferenceIdeal.Gen

/-- Adding up a list's terms one after the other, from `x`, gives `x` plus their sum. -/
theorem foldl_add {n : Nat} (g : Fin n → EReal) (x : EReal) : (List.finRange n).foldl (fun a i => a + g i) x = x + ∑ i, g i := by
  have h : ∀ (l : List (Fin n)) (x : EReal), l.foldl (fun a i => a + g i) x = x + (l.map g).sum := by
    intro l
    induction l with
    | nil => intro x; simp
    | cons i l ih => intro x; rw [List.foldl_cons, ih, List.map_cons, List.sum_cons, add_assoc]
  rw [h, Fin.sum_univ_def]

/-- A sum over the positions of an array is the sum over its indices. -/
theorem sum_rowMajor (s : Shape) (g : s.Idx → EReal) : ∑ n : Fin s.numel, g (s.rowMajor.symm n) = ∑ i, g i :=
  Equiv.sum_comp s.rowMajor.symm g

/-- A scatter that adds: an entry holds what it held before plus the sum of the updates that land there. -/
theorem scatter_add {s si u : Shape} (d : ScatterDims s si u) (x : FVec Ideal s .f32) (idx : IVec si 32) (upd : FVec Ideal u .f32) (i : s.Idx) :
    Host.scatter d FloatOps.addf x idx upd i = x i + ∑ k : u.Idx, if d.resultIdx? k idx = some i then upd k else (0 : EReal) := by
  rw [Routing.scatter_at, ← sum_rowMajor u, ← foldl_add]
  refine congrFun (congrFun (congrArg List.foldl (funext fun a => funext fun n => ?_)) _) _
  split
  · rfl
  · exact (add_zero a).symm

/-- Column `j` of the running sums adds up the window's four positions: those left of the row hold zero. -/
theorem sums_apply (p : FVec Ideal S16384x4 .f32) (b : Fin 16384) (j : Fin 4) :
    sums p (ix2 b j) = ∑ n : Fin 4, if h : 3 ≤ j.val + n.val then p (ix2 b ⟨j.val + n.val - 3, by omega⟩) else 0 := by
  have hz : broadcastInDim S_ ![] bcast_S_S_ (constant S_ .f32 0x00000000#32 : FVec Ideal S_ .f32) (Shape.Idx.first h_S_) = (0 : EReal) :=
    Ideal.ofBits_zero_f32
  unfold sums Host.reduceWindowAdd
  rw [hz, Ideal.hostReduceWindowAdd_def]
  unfold Ideal.hostReduceWindowAdd Host.reduceWindow
  dsimp only
  rw [foldl_add, zero_add]
  refine (Equiv.sum_comp (Shape.rowMajor ⟨2, ![1, 4]⟩) _).symm.trans ?_
  simp only [Equiv.symm_apply_apply]
  rw [sum_idx2, Fin.sum_univ_one]
  refine Finset.sum_congr rfl fun n _ => ?_
  by_cases h : 3 ≤ j.val + n.val
  · rw [dif_pos h, dif_pos]
    · refine congrArg p (funext fun a => Fin.ext ?_)
      match a with
      | ⟨0, _⟩ => show b.val * 1 + 0 - 0 = b.val; omega
      | ⟨1, _⟩ => show j.val * 1 + n.val - 3 = j.val + n.val - 3; omega
    · intro a
      match a with
      | ⟨0, _⟩ => show 0 ≤ b.val * 1 + 0 ∧ b.val * 1 + 0 - 0 < 16384; omega
      | ⟨1, _⟩ => show 3 ≤ j.val * 1 + n.val ∧ j.val * 1 + n.val - 3 < 4; omega
  · rw [dif_neg h, dif_neg]
    intro h'
    have h1 : 3 ≤ j.val * 1 + n.val := (h' 1).1
    omega

/-- Entry `(b', k)` of the four columns lands at `(b, c)` of the eight exactly when the rows are the same and `c` is `k + 4`. -/
theorem lands (b b' : Fin 16384) (k : Fin 4) (c : Fin 8) :
    scatter_S16384x8_S1_S16384x4_01_n_1_0.resultIdx? (ix2 b' k) (broadcastInDim S1 ![] bcast_S_S1 (constantI S_ 32 4#32)) = some (ix2 b c)
      ↔ b' = b ∧ k.val + 4 = c.val := by
  rw [Routing.resultIdx?_eq_some]
  constructor
  · intro h
    have h0 : (0 : Int) + (b'.val : Int) = (b.val : Int) := h 0
    have h1 : (4 : Int) + (k.val : Int) = (c.val : Int) := h 1
    exact ⟨Fin.ext (by omega), by omega⟩
  · rintro ⟨rfl, h⟩ a
    match a with
    | ⟨0, _⟩ => show (0 : Int) + (b'.val : Int) = (b'.val : Int); omega
    | ⟨1, _⟩ => show (4 : Int) + (k.val : Int) = (c.val : Int); omega

/-- Entry `(b, c)` of the eight columns: zero, and from column four on the entry that lands there. -/
theorem placed_apply (u : FVec Ideal S16384x4 .f32) (b : Fin 16384) (c : Fin 8) :
    placed u (ix2 b c) = if h : 4 ≤ c.val then u (ix2 b ⟨c.val - 4, by omega⟩) else 0 := by
  have hz : broadcastInDim S16384x8 ![] bcast_S_S16384x8 (constant S_ .f32 0x00000000#32 : FVec Ideal S_ .f32) (ix2 b c) = (0 : EReal) :=
    Ideal.ofBits_zero_f32
  unfold placed
  rw [scatter_add, hz, zero_add, sum_idx2]
  refine (Finset.sum_congr rfl fun b' _ => Finset.sum_congr rfl fun k _ => if_congr (lands b b' k c) rfl rfl).trans ?_
  by_cases h : 4 ≤ c.val
  · rw [dif_pos h, Finset.sum_eq_single b, Finset.sum_eq_single ⟨c.val - 4, by omega⟩, if_pos ⟨rfl, by show c.val - 4 + 4 = c.val; omega⟩]
    · intro k _ hk
      exact if_neg fun h' => hk (Fin.ext (by have := h'.2; show k.val = c.val - 4; omega))
    · exact fun h' => absurd (Finset.mem_univ _) h'
    · exact fun b' _ hb => Finset.sum_eq_zero fun k _ => if_neg fun h' => hb h'.1
    · exact fun h' => absurd (Finset.mem_univ _) h'
  · rw [dif_neg h]
    exact Finset.sum_eq_zero fun b' _ => Finset.sum_eq_zero fun k _ => if_neg fun h' => h (by have := h'.2; omega)

/-- Column `c` of row `b` of the result: zero up to column three, then share `c - 4` plus what the running sum has beyond it,
    and one from column eight on. -/
theorem result_apply (p : FVec Ideal S16384x4 .f32) (b : Fin 16384) (c : Fin 12) :
    result p (ix2 b c) = if h : c.val < 8 then
        if h' : 4 ≤ c.val then
          p (ix2 b ⟨c.val - 4, by omega⟩) + ((∑ n : Fin 4, if h : 3 ≤ c.val - 4 + n.val then p (ix2 b ⟨c.val - 4 + n.val - 3, by omega⟩) else 0)
            - p (ix2 b ⟨c.val - 4, by omega⟩))
        else 0
      else 1 := by
  pointwise [result]
  split
  · rw [placed_apply]
    split
    · pointwise
      rw [sums_apply]
    · rfl
  · rfl

end Cert.Proof.Host

end
-- ==== Proof.Equation.lean ====
/- The equation: for a row whose logits are real numbers, what the kernel computes and what the reference computes are both
   the row of the specification. Everything in sight is a real number, so each side is arithmetic of the reals. -/
module

public import proofs.«01_k».proof.Proof.Real
public import proofs.«01_k».proof.Proof.Block
public import proofs.«01_k».proof.Proof.Columns

@[expose] public section

noncomputable section

namespace Cert.Proof.Equation

open Idealize.ShloMosaic Cert.Proof.Spec

/-- The shares of a row with real logits: each weight over the total, which is positive. -/
theorem share_coe {l : Fin 5 → EReal} (h : ∀ k, IsReal (l k)) :
    ∃ w : Fin 5 → ℝ, (∀ k, weight l k = (w k : EReal)) ∧ total l = ((∑ k, w k : ℝ) : EReal) ∧ (∑ k, w k) ≠ 0
      ∧ ∀ k, share l k = ((w k * (1 / ∑ k, w k) : ℝ) : EReal) := by
  obtain ⟨w, hpos, hw⟩ := weight_pos h
  have ht : total l = ((∑ k, w k : ℝ) : EReal) := by unfold total; rw [← sum_coe]; exact Finset.sum_congr rfl fun k _ => hw k
  have h0 : (∑ k, w k) ≠ 0 := (Finset.sum_pos (fun k _ => hpos k) Finset.univ_nonempty).ne'
  refine ⟨w, hw, ht, h0, fun k => ?_⟩
  unfold share
  rw [ht, Ideal.div_coe h0, hw, EReal.coe_mul]

/-- The kernel's coefficients from column eight on are all one, so they add up the total. -/
theorem coef_one (c : Fin 12) (k : Fin 5) (h : 8 ≤ c.val) : Block.coef c k = 1 := if_pos (Or.inr h)

/-- The kernel's columns: a sum of the weights a column takes, times the reciprocal of the total. -/
theorem kernel_eq {l : Fin 5 → EReal} (h : ∀ k, IsReal (l k)) (c : Fin 12) :
    (∑ k, Block.coef c k * weight l k) * Ideal.div 1 (∑ k, Block.coef 8 k * weight l k) = knots l c := by
  obtain ⟨w, hw, ht, h0, hs⟩ := share_coe h
  have hone : ∀ c : Fin 12, 8 ≤ c.val → ∑ k, Block.coef c k * weight l k = ((∑ k, w k : ℝ) : EReal) := fun c hc => by
    rw [← ht]
    exact Finset.sum_congr rfl fun k _ => by rw [coef_one c k hc, one_mul]
  rw [hone 8 (le_refl 8), Ideal.div_coe h0, one_mul]
  unfold knots
  split
  · next hc =>
    rw [Finset.sum_eq_zero, zero_mul]
    intro k _
    unfold Block.coef
    rw [if_neg (by omega), zero_mul]
  · next hc =>
    split
    · next hc' =>
      have hk : ∀ k : Fin 5, Block.coef c k * weight l k = ((if k.val + 4 ≤ c.val then w k else 0 : ℝ) : EReal) := fun k => by
        unfold Block.coef
        by_cases hkc : k.val + 4 ≤ c.val
        · rw [if_pos (Or.inl ⟨hc', hkc⟩), if_pos hkc, one_mul, hw]
        · rw [if_neg (by omega), if_neg hkc, zero_mul, EReal.coe_zero]
      have hk' : ∀ k : Fin 5, (if k.val + 4 ≤ c.val then share l k else 0)
          = (((if k.val + 4 ≤ c.val then w k else 0) * (1 / ∑ k, w k) : ℝ) : EReal) := fun k => by
        by_cases hkc : k.val + 4 ≤ c.val
        · rw [if_pos hkc, if_pos hkc, hs]
        · rw [if_neg hkc, if_neg hkc, zero_mul, EReal.coe_zero]
      simp only [hk, hk']
      rw [sum_coe, sum_coe, ← EReal.coe_mul, Finset.sum_mul]
    · rw [hone c (by omega), ← EReal.coe_mul, mul_one_div_cancel h0, EReal.coe_one]

/-- A real number plus what another has beyond it is the other. -/
theorem add_sub (a : ℝ) {s : EReal} (h : IsReal s) : (a : EReal) + (s - a) = s := by
  obtain ⟨r, rfl⟩ := h
  rw [← EReal.coe_sub, ← EReal.coe_add, add_sub_cancel]

/-- The running sum's window at column `c` holds the shares up to `c - 4`. -/
theorem window_eq (l : Fin 5 → EReal) (c : Fin 12) (h4 : 4 ≤ c.val) (h8 : c.val < 8) :
    (∑ n : Fin 4, if h : 3 ≤ c.val - 4 + n.val then share l ((⟨c.val - 4 + n.val - 3, by omega⟩ : Fin 4).castLE (by decide)) else 0)
      = ∑ k : Fin 5, if k.val + 4 ≤ c.val then share l k else 0 := by
  obtain ⟨c, hc⟩ := c
  rw [Fin.sum_univ_four, Fin.sum_univ_five]
  dsimp only at h4 h8 ⊢
  interval_cases c <;> simp <;> rfl

/-- The reference's columns, read from the four shares `p` of a row. -/
theorem reference_eq {l : Fin 5 → EReal} (h : ∀ k, IsReal (l k)) (p : FVec Ideal Cert.ReferenceIdeal.S16384x4 .f32) (b : Fin 16384)
    (hp : ∀ k : Fin 4, p (ix2 b k) = share l (k.castLE (by decide))) (c : Fin 12) : Host.result p (ix2 b c) = knots l c := by
  obtain ⟨w, hw, ht, h0, hs⟩ := share_coe h
  rw [Host.result_apply]
  simp only [hp]
  unfold knots
  by_cases h8 : c.val < 8
  · rw [dif_pos h8]
    by_cases h4 : 4 ≤ c.val
    · rw [dif_pos h4, if_neg (by omega), if_pos h8, window_eq l c h4 h8, hs ((⟨c.val - 4, by omega⟩ : Fin 4).castLE (by decide))]
      refine add_sub _ (IsReal.sum fun k => ?_)
      split
      · exact ⟨_, hs k⟩
      · exact IsReal.zero
    · rw [dif_neg h4, if_pos (by omega)]
  · rw [dif_neg h8, if_neg (by omega), if_neg h8]

end Cert.Proof.Equation

end
-- ==== Proof.Array.lean ====
/- What the kernel's result array holds after the run. Grid point `t` writes rows `2048 t` to `2048 t + 2047`; the eight points
   cover the array, so each of its rows is what the block computation gives for that row. -/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.Proof.Array

open Idealize.ShloMosaic Idealize.ShloMosaic.TcCoe Cert.KernelIdeal Cert.KernelIdeal.Gen

variable (m : (ℓ : Loc nD τ sig) → Buf (Elt Ideal) ℓ) (c : Dev nD)

/-- The logits of row `b`, of the kernel's arguments. -/
def logits (b : Fin 16384) : Fin 5 → EReal :=
  Spec.logits (fun a => m ((c : Thread nD τ).loc main_arg0) (ix3 0 b a)) (fun i a => m ((c : Thread nD τ).loc main_arg1) (ix2 i a))
    (fun i => m ((c : Thread nD τ).loc main_arg2) (ix1 i)) (fun i a => m ((c : Thread nD τ).loc main_arg3) (ix2 i a))
    (fun i => m ((c : Thread nD τ).loc main_arg4) (ix1 i)) (fun i a => m ((c : Thread nD τ).loc main_arg5) (ix2 i a))
    (fun i => m ((c : Thread nD τ).loc main_arg6) (ix1 i))

/-- The result array, row by row: the weights a column takes, times the reciprocal of the total. -/
def result : Buf (Elt Ideal) ((c : Thread nD τ).loc main_v0) := fun i =>
  (∑ k : Fin 5, Block.coef (i 1) k * Spec.weight (logits m c (i 0)) k)
    * Ideal.div 1 (∑ k : Fin 5, Block.coef 8 k * Spec.weight (logits m c (i 0)) k)

/-- Point `t` reads rows of block `t` of the input, and the whole of the weights and the biases. -/
theorem idx : ∀ t : Fin cfg0.N, win0_0.index t = ![0, t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] :=
  (by decide +kernel : ∀ t : Fin grid0.N, _)

/-- The result array after the run. -/
theorem final : (dats m 0 c).arrAt 7 cfg0.N = result m c := by
  refine (dats m 0 c).arrAt_eq_of_covers 7 _ (by decide +kernel) fun t hf y => ?_
  blk_simp
  rw [after0_7]
  frame_out
  idx_vars y
  have ht : t.val < 8 := N_0 ▸ t.isLt
  have e : (win0_7.blk t).view.emb (ix2 y0 y1) = ix2 ⟨t.val * 2048 + y0.val, by omega⟩ y1 := by blk_ext [idx t]
  rw [Block.pay1_apply]
  refine Eq.trans ?_ (congrArg (result m c) e).symm
  simp only [Block.pay2_apply]
  unfold result logits
  blk_point [iblk, V, idx t]

end Cert.Proof.Array

end
-- ==== Proof.Finite.lean ====
/- What the precondition says: every entry of the seven arguments is a real number. The printed predicate compares each absolute
   value with infinity and takes the conjunction of all the answers. -/
module

public import proofs.«01_k».proof.Proof.Real
public import proofs.«01_k».proof.Proof.Gen.Pre_finite_args
public import Idealize.ShloMosaic.Lib.ReduceAll

@[expose] public section

noncomputable section

namespace Cert.Proof.Finite

open Idealize.ShloMosaic Cert.Pre_finite_args Cert.Proof.Spec

/-- A conjunction over an array of "the absolute value is below infinity" that comes out true makes every entry a real number. -/
theorem all_real {s : Shape} {axes : List (Fin s.rank)} (hb : S_.BroadcastsInDim s (![] : Fin 0 → Fin s.rank)) (h : s.ReducesTo axes S_) (hu : 0 < S_.numel)
    (x : FVec Ideal s .f32) (j : S_.Idx)
    (e : Host.reduce IntOp.andi (cmpf .olt (Host.absf x) (broadcastInDim s ![] hb (constant S_ .f32 0x7F800000#32))) (constantI S_ 1 1#1) h hu j = 1#1)
    (i : s.Idx) : IsReal (x i) := by
  have hi : BitVec.ofBool (decide (max (x i) (-x i) < (⊤ : EReal))) = 1#1 := Host.reduce_andi_all _ _ h hu j e i
  refine IsReal.of_abs_lt ?_
  by_contra hn
  rw [decide_eq_false hn] at hi
  exact absurd hi (by decide)

/-- The precondition, read: all seven arguments hold real numbers only. -/
theorem real_of_pre {x : FVec Ideal S1x16384x8 .f32} {W1 : FVec Ideal S128x8 .f32} {b1 : FVec Ideal S128 .f32} {W2 : FVec Ideal S128x128 .f32}
    {b2 : FVec Ideal S128 .f32} {W3 : FVec Ideal S5x128 .f32} {b3 : FVec Ideal S5 .f32} (h : fn x W1 b1 W2 b2 W3 b3 = fun _ => 1#1) :
    (∀ i, IsReal (x i)) ∧ (∀ i, IsReal (W1 i)) ∧ (∀ i, IsReal (b1 i)) ∧ (∀ i, IsReal (W2 i)) ∧ (∀ i, IsReal (b2 i)) ∧ (∀ i, IsReal (W3 i))
      ∧ ∀ i, IsReal (b3 i) := by
  have e := congrFun h (Shape.Idx.first Facts.h_S_)
  obtain ⟨e, h6⟩ := IntOp.andi_eq_one.mp e
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨all_real _ _ _ _ _ h0, all_real _ _ _ _ _ h1, all_real _ _ _ _ _ h2, all_real _ _ _ _ _ h3, all_real _ _ _ _ _ h4,
    all_real _ _ _ _ _ h5, all_real _ _ _ _ _ h6⟩

end Cert.Proof.Finite

end
-- ==== Proof.Agree.lean ====
/- The kernel's result array and the reference's, row by row, are the knots of the same logits when the arguments are finite. -/
module

public import proofs.«01_k».proof.Proof.Equation
public import proofs.«01_k».proof.Proof.Array
public import proofs.«01_k».proof.Proof.Finite
public import proofs.«01_k».proof.Defs

@[expose] public section

noncomputable section

namespace Cert.Proof.Agree

open Idealize.ShloMosaic Idealize.ShloMosaic.TcCoe Cert.KernelIdeal Cert.Proof.Spec

variable {m : (ℓ : Loc nD τ sig) → Buf (Elt Ideal) ℓ}

/-- Finite arguments: every row's logits are real numbers. -/
theorem logits_real (h : Cert.Pre_KernelIdeal_finite_args m) (c : Dev nD) (b : Fin 16384) (k : Fin 5) : IsReal (Array.logits m c b k) := by
  obtain ⟨hx, hW1, hb1, hW2, hb2, hW3, hb3⟩ := Finite.real_of_pre (h c)
  exact IsReal.logits (fun _ => hx _) (fun _ _ => hW1 _) (fun _ => hb1 _) (fun _ _ => hW2 _) (fun _ => hb2 _) (fun _ _ => hW3 _) (fun _ => hb3 _) k

/-- The kernel's row is the knots of its logits. -/
theorem kernel_row (h : Cert.Pre_KernelIdeal_finite_args m) (c : Dev nD) (b : Fin 16384) (k : Fin 12) :
    Array.result m c (ix2 b k) = knots (Array.logits m c b) k :=
  Equation.kernel_eq (logits_real h c b) k

/-- The reference's stages, on the kernel's arguments: its row is the knots of the same logits. -/
theorem reference_row (h : Cert.Pre_KernelIdeal_finite_args m) (c : Dev nD) (b : Fin 16384) (k : Fin 12) :
    Host.result (Host.shares (Host.logits (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))))
      (ix2 b k) = knots (Array.logits m c b) k := by
  refine Equation.reference_eq (logits_real h c b) _ b (fun j => ?_) k
  rw [Host.shares_apply]
  exact congrArg (fun l => share l (j.castLE (by decide))) (funext fun k => Host.logits_apply _ _ _ _ _ _ _ b k)

/-- On the same finite arguments the reference ends with what the kernel's result array holds. -/
theorem result_eq (h : Cert.Pre_KernelIdeal_finite_args m) {m' : (ℓ : Loc Cert.ReferenceIdeal.nD Cert.ReferenceIdeal.τ Cert.ReferenceIdeal.sig) → Buf (Elt Ideal) ℓ}
    (c : Dev nD)
    (h0 : m' ((c : Thread Cert.ReferenceIdeal.nD Cert.ReferenceIdeal.τ).loc Cert.ReferenceIdeal.main_arg0) = m ((c : Thread nD τ).loc main_arg0))
    (h1 : m' ((c : Thread Cert.ReferenceIdeal.nD Cert.ReferenceIdeal.τ).loc Cert.ReferenceIdeal.main_arg1) = m ((c : Thread nD τ).loc main_arg1))
    (h2 : m' ((c : Thread Cert.ReferenceIdeal.nD Cert.ReferenceIdeal.τ).loc Cert.ReferenceIdeal.main_arg2) = m ((c : Thread nD τ).loc main_arg2))
    (h3 : m' ((c : Thread Cert.ReferenceIdeal.nD Cert.ReferenceIdeal.τ).loc Cert.ReferenceIdeal.main_arg3) = m ((c : Thread nD τ).loc main_arg3))
    (h4 : m' ((c : Thread Cert.ReferenceIdeal.nD Cert.ReferenceIdeal.τ).loc Cert.ReferenceIdeal.main_arg4) = m ((c : Thread nD τ).loc main_arg4))
    (h5 : m' ((c : Thread Cert.ReferenceIdeal.nD Cert.ReferenceIdeal.τ).loc Cert.ReferenceIdeal.main_arg5) = m ((c : Thread nD τ).loc main_arg5))
    (h6 : m' ((c : Thread Cert.ReferenceIdeal.nD Cert.ReferenceIdeal.τ).loc Cert.ReferenceIdeal.main_arg6) = m ((c : Thread nD τ).loc main_arg6)) :
    Cert.ReferenceIdeal.Value.res_out0 m' c = Array.result m c := by
  rw [Host.res_eq, h0, h1, h2, h3, h4, h5, h6]
  funext i
  rw [eq_ix2 i]
  exact (reference_row h c _ _).trans (kernel_row h c _ _).symm

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite_args
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed runs, keeps its arguments and leaves every semaphore at zero. -/
theorem frame_p : Cert.quiescent_Kernel := fun m ρ _ => Cert.Kernel.Gen.frame m ρ

/-- The same of the kernel over the extended reals. -/
theorem frame_pi : Cert.quiescent_KernelIdeal := fun m ρ _ => Cert.KernelIdeal.Gen.frame m ρ

/-- The same of the kernel over the extended reals, with finite arguments. -/
theorem frame_pi_finite : Cert.quiescent_KernelIdeal_pre_finite_args := fun m ρ _ => frame_pi m ρ trivial

/-- The reference has no semaphore, and its run keeps its arguments. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The same of the reference, with finite arguments. -/
theorem frame_ri_finite : Cert.quiescent_ReferenceIdeal_pre_finite_args := fun m ρ _ => frame_ri m ρ trivial

/-- On finite arguments both runs end with the same result array: the kernel's, which is the reference's. -/
theorem algebraic : Cert.algebraic_KernelIdeal_ReferenceIdeal_pre_finite_args := fun m ρ m' ρ' hpre hargs =>
  ⟨fun c => Array.result m c,
    (θ_run Cert.KernelIdeal.defs _ _).mono (fun _ h c => ⟨(h c).1.trans (Array.final m c), (h c).2⟩) (Cert.KernelIdeal.Value.run_blocks m ρ),
    (θ_run Cert.ReferenceIdeal.defs _ _).mono (fun _ h c =>
      have ⟨h0, h1, h2, h3, h4, h5, h6⟩ := hargs c
      ⟨(h c).1.trans (Agree.result_eq hpre c h0 h1 h2 h3 h4 h5 h6), (h c).2⟩) (Cert.ReferenceIdeal.Value.run m' ρ')⟩

/-- Everything claimed. Nothing was rewritten to make the kernel ideal, so that claim has no content. -/
theorem claim : Cert.Claim :=
  ⟨Cert.Kernel.Gen.facts, Cert.KernelIdeal.Gen.facts, Cert.ReferenceIdeal.Gen.facts, Cert.Pre_finite_args.Gen.facts,
    frame_p, frame_pi, frame_pi_finite, frame_ri, frame_ri_finite, trivial, algebraic⟩

end Cert.Proof

end
